-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1920x384 : Shape := ⟨2, ![1920, 384]⟩
abbrev S128x11008 : Shape := ⟨2, ![128, 11008]⟩
abbrev S_ : Shape := ⟨0, ![]⟩

class Facts : Prop where
  bitsLt_bf16_f32 : FTy.bits .bf16 < FTy.bits .f32
  bcast_S_S1920x384 : S_.BroadcastsInDim S1920x384 (![] : Fin 0 → Fin S1920x384.rank)
  reducesTo_S1920x384_S_d0_1 : S1920x384.ReducesTo [0, 1] S_
  h_S_ : 0 < S_.numel
  bcast_S_S128x11008 : S_.BroadcastsInDim S128x11008 (![] : Fin 0 → Fin S128x11008.rank)
  reducesTo_S128x11008_S_d0_1 : S128x11008.ReducesTo [0, 1] S_

variable [Facts]

def fn {F : FTy → Type} [FloatOps F] (main_arg0 : FVec F S1920x384 .bf16) (main_arg1 : FVec F S128x11008 .f32) : IVec S_ 1 :=
  let main_v0 : FVec F S1920x384 .f32 := (extf .f32 · bitsLt_bf16_f32) main_arg0
  let main_v1 : FVec F S1920x384 .f32 := Host.absf main_v0
  let main_cst : FVec F S_ .f32 := constant S_ .f32 0x7F800000#32
  let main_v2 : FVec F S1920x384 .f32 := broadcastInDim S1920x384 ![] bcast_S_S1920x384 main_cst
  let main_v3 : IVec S1920x384 1 := cmpf .olt main_v1 main_v2
  let main_c : IVec S_ 1 := constantI S_ 1 1#1
  let main_v4 : IVec S_ 1 := (fun x v => Host.reduce IntOp.andi x v reducesTo_S1920x384_S_d0_1 h_S_) main_v3 main_c
  let main_v5 : FVec F S128x11008 .f32 := Host.absf main_arg1
  let main_cst_0 : FVec F S_ .f32 := constant S_ .f32 0x7F800000#32
  let main_v6 : FVec F S128x11008 .f32 := broadcastInDim S128x11008 ![] bcast_S_S128x11008 main_cst_0
  let main_v7 : IVec S128x11008 1 := cmpf .olt main_v5 main_v6
  let main_c_1 : IVec S_ 1 := constantI S_ 1 1#1
  let main_v8 : IVec S_ 1 := (fun x v => Host.reduce IntOp.andi x v reducesTo_S128x11008_S_d0_1 h_S_) main_v7 main_c_1
  let main_v9 : IVec S_ 1 := andi main_v4 main_v8
  main_v9
-- ==== Kernel.lean ====
abbrev S1920x384 : Shape := ⟨2, ![1920, 384]⟩
abbrev S128x11008 : Shape := ⟨2, ![128, 11008]⟩
abbrev S1920x10880 : Shape := ⟨2, ![1920, 10880]⟩
abbrev S128x11392 : Shape := ⟨2, ![128, 11392]⟩
abbrev S1920x512 : Shape := ⟨2, ![1920, 512]⟩
abbrev S1920x128 : Shape := ⟨2, ![1920, 128]⟩
abbrev S128x512 : Shape := ⟨2, ![128, 512]⟩
abbrev S1920x768 : Shape := ⟨2, ![1920, 768]⟩
abbrev S768x512 : Shape := ⟨2, ![768, 512]⟩

abbrev nBuf : Space → Nat
  | .hbm => 3
  | .vmem => 4
  | .smem => 0
  | _ => 0

abbrev bufTy : (tb : Table) → Fin (tcTables nBuf tb) → BufTy
  | .hbm, ⟨0, _⟩ => ⟨S1920x384, .bf16⟩
  | .hbm, ⟨1, _⟩ => ⟨S128x11008, .f32⟩
  | .hbm, ⟨2, _⟩ => ⟨S1920x10880, .f32⟩
  | .local _ .vmem, ⟨0, _⟩ => ⟨S1920x384, .bf16⟩
  | .local _ .vmem, ⟨1, _⟩ => ⟨S128x11392, .f32⟩
  | .local _ .vmem, ⟨2, _⟩ => ⟨S1920x512, .f32⟩
  | .local _ .vmem, ⟨3, _⟩ => ⟨S1920x512, .f32⟩
  | _, _ => ⟨S1920x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![22], ![false]⟩

def k0_mult1 (i : grid0.Coords) : BitVec 32 :=
  let c128_i32 : BitVec 32 := 128#32
  let arg0 : BitVec 32 := BitVec.ofNat 32 (i 0).val
  let c512_i32 : BitVec 32 := 512#32
  let v3 : BitVec 32 := Scalar.muli arg0 c512_i32
  let v4 : BitVec 32 := Scalar.addi c128_i32 v3
  v4
def k0_off1 (i : grid0.Coords) : Fin 2 → Nat :=
  let c0_3 : Index := 0#32
  let c128_i32 : BitVec 32 := 128#32
  let arg0 : BitVec 32 := BitVec.ofNat 32 (i 0).val
  let c512_i32 : BitVec 32 := 512#32
  let v3 : BitVec 32 := Scalar.muli arg0 c512_i32
  let v4 : BitVec 32 := Scalar.addi c128_i32 v3
  let v5 : BitVec 32 := v4
  let v6 : Index := Scalar.indexCast v5
  ![0, v6.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1920x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x11392 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1920x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1920x384 : Shape := ⟨2, ![1920, 384]⟩
abbrev S128x11008 : Shape := ⟨2, ![128, 11008]⟩
abbrev S1920x128 : Shape := ⟨2, ![1920, 128]⟩
abbrev S128x10880 : Shape := ⟨2, ![128, 10880]⟩
abbrev S1920x10880 : Shape := ⟨2, ![1920, 10880]⟩

abbrev nBuf : Space → Nat
  | .hbm => 10
  | .vmem => 0
  | .smem => 0
  | _ => 0

abbrev bufTy : (tb : Table) → Fin (tcTables nBuf tb) → BufTy
  | .hbm, ⟨0, _⟩ => ⟨S1920x384, .bf16⟩
  | .hbm, ⟨1, _⟩ => ⟨S128x11008, .f32⟩
  | .hbm, ⟨2, _⟩ => ⟨S1920x384, .f32⟩
  | .hbm, ⟨3, _⟩ => ⟨S1920x128, .f32⟩
  | .hbm, ⟨4, _⟩ => ⟨S1920x128, .f32⟩
  | .hbm, ⟨5, _⟩ => ⟨S1920x128, .f32⟩
  | .hbm, ⟨6, _⟩ => ⟨S1920x128, .f32⟩
  | .hbm, ⟨7, _⟩ => ⟨S1920x128, .f32⟩
  | .hbm, ⟨8, _⟩ => ⟨S128x10880, .f32⟩
  | .hbm, ⟨9, _⟩ => ⟨S1920x10880, .f32⟩
  | _, _ => ⟨S1920x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Proof.BodyKernel.lean ====
/-
  The body of the update call and its frame run, for any float values.

  The call stages the limbs whole (window 0), the rows of the inverse Hessian whole with their padding to a multiple of
  the column tile (window 1, whose transfers move only the part inside the array), and writes the result tile by tile
  (window 2, whose last tile overhangs the array). `kernelRun` is the body's triple: both input buffers are left as found
  and the result's buffer ends at the payload over what the loads read. `run_frame` is the run with the result's
  contents left unnamed: every execution terminates, the two arguments end as launched and every counter ends at zero.
-/
module

public import proofs.«01_k».proof.Proof.Gen.Kernel.Frame
public import proofs.«01_k».proof.Proof.Gen.Kernel.Skeleton
public import Idealize.ShloMosaic.Lib.Pipeline.ValueKit

@[expose] public section

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body stores at point `i`, from what the limbs' buffer `X` and the Hessian's buffer `H` hold: the three
    limb panels are columns 0, 128 and 256 on of `X`; the columns of `H` are the point's tile. -/
def stored (i : grid0.Coords) (X : S1920x384.Idx → Elt F .bf16) (H : S128x11392.Idx → Elt F .f32) : S1920x512.Idx → Elt F .f32 :=
  k0_pay1 (View.ld X (Rect.unit (s := S1920x384) ![0, 0] S1920x128.size inb_S1920x384_S1920x128_0_0))
    (View.ld X (Rect.unit (s := S1920x384) ![0, 128] S1920x128.size inb_S1920x384_S1920x128_0_128))
    (View.ld X (Rect.unit (s := S1920x384) ![0, 256] S1920x128.size inb_S1920x384_S1920x128_0_256))
    (View.ld H (Rect.unit (s := S128x11392) (k0_off1 i) S128x512.size (k0_off1_inb i)))

/-- The body's triple: from the two input buffers at `X` and `H` and the result's at anything, the inputs are left as
    found and the result's buffer holds what the body stores. -/
theorem kernelRun (c : Dev nD) (i : grid0.Coords) (arg1 : Memref sig .tc .vmem S1920x384 .bf16) (harg1 : arg1.IsWhole)
    (arg2 : Memref sig .tc .vmem S128x11392 .f32) (harg2 : arg2.IsWhole) (arg3 : Memref sig .tc .vmem S1920x512 .f32) (harg3 : arg3.IsWhole)
    (X : S1920x384.Idx → Elt F .bf16) (H : S128x11392.Idx → Elt F .f32) (K : PUnit → sProp 𝕄) :
    iprop((owns (c : Thread nD τ) arg1 fullShare X ∗ owns (c : Thread nD τ) arg2 fullShare H ∗ (∃ d, owns (c : Thread nD τ) arg3 fullShare d))
        ∗ (iprop(owns (c : Thread nD τ) arg1 fullShare X ∗ owns (c : Thread nD τ) arg2 fullShare H
              ∗ owns (c : Thread nD τ) arg3 fullShare (stored i X H)) -∗ K ⟨⟩))
      ⊢ wp frame (wpE (defs₀ (F := F)) Variants.none c none) Set.univ (cc0_update i arg1 harg1 arg2 harg2 arg3 harg3) K := by
  simp only [cc0_update_eq_skeleton]; unfold cc0_update_skel
  unfold owns
  iintro ⟨⟨⟨%f1, %h1, H1⟩, ⟨%f2, %h2, H2⟩, ⟨%d, %f3, -, H3⟩⟩, Hk⟩
  sl_exec
  sl_step
  iapply Hk
  isplitl [H1]
  · iexists f1; isplitr; · ipureintro; exact h1
    iexact H1
  isplitl [H2]
  · iexists f2; isplitr; · ipureintro; exact h2
    iexact H2
  · iexists _; isplitr; swap; · iexact H3
    ipureintro
    subst h1 h2
    have hz : (![0, 0] : Fin 2 → Nat) = fun _ => 0 := funext fun a => by fin_cases a <;> rfl
    refine (View.read_writes_eq_canon arg3.view f3 _ ?_).trans ((View.canon_unit_zero (S := S1920x512) hz _ _).trans ?_)
    · intro y
      exact ⟨_, List.mem_singleton.2 rfl, View.mem_set_unit_zero (S := S1920x512) hz inb_S1920x512_S1920x512_0_0 y⟩
    rfl

/-! ## The frame run -/

/-- The result's window, forgotten: the frame says nothing of what the call leaves in it. -/
def forgets : Fin 3 → Bool := ![false, false, true]

/-- The proof data of the frame run: the arrays as launched; the limbs' buffer keeps its block, the Hessian's its block
    filled out past the array's end with a word nothing reads; the result's unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits .f32 0#32) (iblk m c 1 t)
    | ⟨2, _⟩ => Pipeline.Dat.unnamed (cfg := cfg0) 2 t
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t
    = win0_1.fill (grid0.coords t) (fun _ => Scalar.ofBits .f32 0#32) (iblk m c 1 t) := by dsimp only [dats]

/-- The limbs' buffer holds the limbs at every point, -/
theorem before_0 (c : Dev nD) (t : Fin cfg0.N) (d) : (dats m 0 c).before 0 t d = iblk m c 0 t :=
  before0_0_of m (dats m 0 c) (A_eq m c 0) (after_0 m c) t d

/-- the Hessian's its rows, anything past the array's end: fetched at the first point only, kept since. -/
theorem before_1_of {c : Dev nD} (dat : Dat τ (Elt F) Unit ℕ (UR sig nD τ) ℕ cfg0 c) (hA : dat.A 1 = V m c (Pipeline.arrRef spec0 1))
    (hafter : ∀ t, win0_1.cut (grid0.coords t) (dat.after 1 t) = iblk m c 1 t) (t : Fin cfg0.N) (d) :
    dat.before 1 t d = win0_1.fill (grid0.coords t) d (iblk m c 1 t) :=
  (dat.before_in_eq_fetched 1 rfl (fun _ => rfl) (fun t t' _ => rfl)
      (fun t => (hafter t).trans (by unfold Dat.blockOf iblk; rw [hA]; try rfl)) t d).trans
    (by unfold Dat.fetched Dat.blockOf iblk; rw [hA]; try rfl)

theorem before_1 (c : Dev nD) (t : Fin cfg0.N) (d) :
    (dats m 0 c).before 1 t d = win0_1.fill (grid0.coords t) d (iblk m c 1 t) :=
  before_1_of m (dats m 0 c) (A_eq m c 1) (fun t => by rw [after_1]; exact win0_1.cut_fill _ _ _) t d

/-- The body table's row at a point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the result forgotten: `kernelRun` at the point's buffers. -/
theorem body_obligation (c : Dev nD) :
    BodyObligationLoose (dats (F := F) m 0 c) (defs₀ (F := F)) Variants.none () Set.univ forgets := fun t => by
  rw [bigSep_W0, bigSep_W0, defs₀_row]
  simp only [show forgets 0 = false from rfl, show forgets 1 = false from rfl, show forgets 2 = true from rfl]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, H2⟩
  rw [before_0 m c t d0, before_1 m c t d1, after_0 m c t, after_1 m c t]
  unfold bodyAt0
  iapply (kernelRun c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2))
    (hstage0_2 ((cfg0.slots t 2).cast nbuf0_2)) (iblk m c 0 t) (win0_1.fill (grid0.coords t) d1 (iblk m c 1 t)) _)
  isplitl [H0 H1 H2]
  · isplitl [H0]; · iexact H0
    isplitl [H1]; · iexact H1
    iexact H2
  iintro ⟨H0, H1, H2⟩
  isplitl [HΦ]; · iexact HΦ
  isplitl [Ho]; · iexact Ho
  isplitl [H0]; · iexact H0
  isplitl [H1]
  · iexists d1
    change _ ⊢ owns (c : Thread nD τ) (stage0_1 (cfg0.slots t 1)) fullShare (win0_1.fill (grid0.coords t) d1
      (win0_1.cut (grid0.coords t) (win0_1.fill (grid0.coords t) (fun _ => Scalar.ofBits .f32 0#32) (iblk m c 1 t))))
    rw [win0_1.cut_fill]; try iexact H1
  iexists _; iexact H2

set_option backward.isDefEq.respectTransparency.types false in
/-- From any memory with zero counters every weakly fair execution of @main terminates, with the arguments unchanged and
    every counter at zero. -/
theorem run_frame : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := body_obligation m) (hshare := fun c => (dats m 0 c).share_full fun _ => rfl)
    (howed := fun _ _ => rfl) (V := V m) (hmain := hmain m Variants.none) (hA := A_eq m) (hΦ := fun _ _ => rfl)

/-- The frame claim's post. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c =>
      ⟨(Pipeline.RDat.FramePost.arr_in h.1 c 0 rfl).trans ((A_eq m c 0).trans (V_main_arg0 m c)),
       (Pipeline.RDat.FramePost.arr_in h.1 c 1 rfl).trans ((A_eq m c 1).trans (V_main_arg1 m c))⟩, h.2⟩) (run_frame m ρ)

end Cert.Kernel.Body

end
-- ==== Proof.BodyKernelIdeal.lean ====
/-
  The body of the update call and its frame run, for any float values.

  The call stages the limbs whole (window 0), the rows of the inverse Hessian whole with their padding to a multiple of
  the column tile (window 1, whose transfers move only the part inside the array), and writes the result tile by tile
  (window 2, whose last tile overhangs the array). `kernelRun` is the body's triple: both input buffers are left as found
  and the result's buffer ends at the payload over what the loads read. `run_frame` is the run with the result's
  contents left unnamed: every execution terminates, the two arguments end as launched and every counter ends at zero.
-/
module

public import proofs.«01_k».proof.Proof.Gen.KernelIdeal.Frame
public import proofs.«01_k».proof.Proof.Gen.KernelIdeal.Skeleton
public import Idealize.ShloMosaic.Lib.Pipeline.ValueKit

@[expose] public section

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body stores at point `i`, from what the limbs' buffer `X` and the Hessian's buffer `H` hold: the three
    limb panels are columns 0, 128 and 256 on of `X`; the columns of `H` are the point's tile. -/
def stored (i : grid0.Coords) (X : S1920x384.Idx → Elt F .bf16) (H : S128x11392.Idx → Elt F .f32) : S1920x512.Idx → Elt F .f32 :=
  k0_pay1 (View.ld X (Rect.unit (s := S1920x384) ![0, 0] S1920x128.size inb_S1920x384_S1920x128_0_0))
    (View.ld X (Rect.unit (s := S1920x384) ![0, 128] S1920x128.size inb_S1920x384_S1920x128_0_128))
    (View.ld X (Rect.unit (s := S1920x384) ![0, 256] S1920x128.size inb_S1920x384_S1920x128_0_256))
    (View.ld H (Rect.unit (s := S128x11392) (k0_off1 i) S128x512.size (k0_off1_inb i)))

/-- The body's triple: from the two input buffers at `X` and `H` and the result's at anything, the inputs are left as
    found and the result's buffer holds what the body stores. -/
theorem kernelRun (c : Dev nD) (i : grid0.Coords) (arg1 : Memref sig .tc .vmem S1920x384 .bf16) (harg1 : arg1.IsWhole)
    (arg2 : Memref sig .tc .vmem S128x11392 .f32) (harg2 : arg2.IsWhole) (arg3 : Memref sig .tc .vmem S1920x512 .f32) (harg3 : arg3.IsWhole)
    (X : S1920x384.Idx → Elt F .bf16) (H : S128x11392.Idx → Elt F .f32) (K : PUnit → sProp 𝕄) :
    iprop((owns (c : Thread nD τ) arg1 fullShare X ∗ owns (c : Thread nD τ) arg2 fullShare H ∗ (∃ d, owns (c : Thread nD τ) arg3 fullShare d))
        ∗ (iprop(owns (c : Thread nD τ) arg1 fullShare X ∗ owns (c : Thread nD τ) arg2 fullShare H
              ∗ owns (c : Thread nD τ) arg3 fullShare (stored i X H)) -∗ K ⟨⟩))
      ⊢ wp frame (wpE (defs₀ (F := F)) Variants.none c none) Set.univ (cc0_update i arg1 harg1 arg2 harg2 arg3 harg3) K := by
  simp only [cc0_update_eq_skeleton]; unfold cc0_update_skel
  unfold owns
  iintro ⟨⟨⟨%f1, %h1, H1⟩, ⟨%f2, %h2, H2⟩, ⟨%d, %f3, -, H3⟩⟩, Hk⟩
  sl_exec
  sl_step
  iapply Hk
  isplitl [H1]
  · iexists f1; isplitr; · ipureintro; exact h1
    iexact H1
  isplitl [H2]
  · iexists f2; isplitr; · ipureintro; exact h2
    iexact H2
  · iexists _; isplitr; swap; · iexact H3
    ipureintro
    subst h1 h2
    have hz : (![0, 0] : Fin 2 → Nat) = fun _ => 0 := funext fun a => by fin_cases a <;> rfl
    refine (View.read_writes_eq_canon arg3.view f3 _ ?_).trans ((View.canon_unit_zero (S := S1920x512) hz _ _).trans ?_)
    · intro y
      exact ⟨_, List.mem_singleton.2 rfl, View.mem_set_unit_zero (S := S1920x512) hz inb_S1920x512_S1920x512_0_0 y⟩
    rfl

/-! ## The frame run -/

/-- The result's window, forgotten: the frame says nothing of what the call leaves in it. -/
def forgets : Fin 3 → Bool := ![false, false, true]

/-- The proof data of the frame run: the arrays as launched; the limbs' buffer keeps its block, the Hessian's its block
    filled out past the array's end with a word nothing reads; the result's unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits .f32 0#32) (iblk m c 1 t)
    | ⟨2, _⟩ => Pipeline.Dat.unnamed (cfg := cfg0) 2 t
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t
    = win0_1.fill (grid0.coords t) (fun _ => Scalar.ofBits .f32 0#32) (iblk m c 1 t) := by dsimp only [dats]

/-- The limbs' buffer holds the limbs at every point, -/
theorem before_0 (c : Dev nD) (t : Fin cfg0.N) (d) : (dats m 0 c).before 0 t d = iblk m c 0 t :=
  before0_0_of m (dats m 0 c) (A_eq m c 0) (after_0 m c) t d

/-- the Hessian's its rows, anything past the array's end: fetched at the first point only, kept since. -/
theorem before_1_of {c : Dev nD} (dat : Dat τ (Elt F) Unit ℕ (UR sig nD τ) ℕ cfg0 c) (hA : dat.A 1 = V m c (Pipeline.arrRef spec0 1))
    (hafter : ∀ t, win0_1.cut (grid0.coords t) (dat.after 1 t) = iblk m c 1 t) (t : Fin cfg0.N) (d) :
    dat.before 1 t d = win0_1.fill (grid0.coords t) d (iblk m c 1 t) :=
  (dat.before_in_eq_fetched 1 rfl (fun _ => rfl) (fun t t' _ => rfl)
      (fun t => (hafter t).trans (by unfold Dat.blockOf iblk; rw [hA]; try rfl)) t d).trans
    (by unfold Dat.fetched Dat.blockOf iblk; rw [hA]; try rfl)

theorem before_1 (c : Dev nD) (t : Fin cfg0.N) (d) :
    (dats m 0 c).before 1 t d = win0_1.fill (grid0.coords t) d (iblk m c 1 t) :=
  before_1_of m (dats m 0 c) (A_eq m c 1) (fun t => by rw [after_1]; exact win0_1.cut_fill _ _ _) t d

/-- The body table's row at a point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the result forgotten: `kernelRun` at the point's buffers. -/
theorem body_obligation (c : Dev nD) :
    BodyObligationLoose (dats (F := F) m 0 c) (defs₀ (F := F)) Variants.none () Set.univ forgets := fun t => by
  rw [bigSep_W0, bigSep_W0, defs₀_row]
  simp only [show forgets 0 = false from rfl, show forgets 1 = false from rfl, show forgets 2 = true from rfl]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, H2⟩
  rw [before_0 m c t d0, before_1 m c t d1, after_0 m c t, after_1 m c t]
  unfold bodyAt0
  iapply (kernelRun c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2))
    (hstage0_2 ((cfg0.slots t 2).cast nbuf0_2)) (iblk m c 0 t) (win0_1.fill (grid0.coords t) d1 (iblk m c 1 t)) _)
  isplitl [H0 H1 H2]
  · isplitl [H0]; · iexact H0
    isplitl [H1]; · iexact H1
    iexact H2
  iintro ⟨H0, H1, H2⟩
  isplitl [HΦ]; · iexact HΦ
  isplitl [Ho]; · iexact Ho
  isplitl [H0]; · iexact H0
  isplitl [H1]
  · iexists d1
    change _ ⊢ owns (c : Thread nD τ) (stage0_1 (cfg0.slots t 1)) fullShare (win0_1.fill (grid0.coords t) d1
      (win0_1.cut (grid0.coords t) (win0_1.fill (grid0.coords t) (fun _ => Scalar.ofBits .f32 0#32) (iblk m c 1 t))))
    rw [win0_1.cut_fill]; try iexact H1
  iexists _; iexact H2

set_option backward.isDefEq.respectTransparency.types false in
/-- From any memory with zero counters every weakly fair execution of @main terminates, with the arguments unchanged and
    every counter at zero. -/
theorem run_frame : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := body_obligation m) (hshare := fun c => (dats m 0 c).share_full fun _ => rfl)
    (howed := fun _ _ => rfl) (V := V m) (hmain := hmain m Variants.none) (hA := A_eq m) (hΦ := fun _ _ => rfl)

/-- The frame claim's post. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c =>
      ⟨(Pipeline.RDat.FramePost.arr_in h.1 c 0 rfl).trans ((A_eq m c 0).trans (V_main_arg0 m c)),
       (Pipeline.RDat.FramePost.arr_in h.1 c 1 rfl).trans ((A_eq m c 1).trans (V_main_arg1 m c))⟩, h.2⟩) (run_frame m ρ)

end Cert.KernelIdeal.Body

end
-- ==== Proof.Value.lean ====
/-
  What one grid point of the update call stores, over the extended reals.

  `REF` is the reference's composed term. `point` says that, for finite limbs and a finite inverse Hessian, the word the
  body stores at row `y 0` and column `y 1` of tile `i`, when that column lies inside the array, is `REF` there, whatever
  fills the Hessian's buffer past the array's end: the six products of the contraction over 768 are the three limbs by
  the leading part of the Hessian, the other two parts being zero.
-/
module

public import proofs.«01_k».proof.Proof.BodyKernelIdeal
public import proofs.«01_k».proof.Proof.Gen.ReferenceIdeal.Run

@[expose] public section

set_option maxRecDepth 16384

noncomputable section

namespace Cert.KernelIdeal.Value

open Cert.KernelIdeal Cert.KernelIdeal.Gen
open Idealize.ShloMosaic Idealize.ShloMosaic.TcCoe Idealize.SL.Sem
open Idealize.ShloMosaic.Pipeline (Dat)

/-- The reference's composed term over the two arguments. -/
abbrev REF (X : FVec Ideal S1920x384 .bf16) (H : FVec Ideal S128x11008 .f32) : FVec Ideal S1920x10880 .f32 :=
  Host.dotGeneral Cert.ReferenceIdeal.dot_S1920x128_S128x10880_S1920x10880_1_0_0_1_n_n (some .fp32)
    (addf (addf (extractStridedSlice Cert.ReferenceIdeal.S1920x128 ![0, 0] (extf .f32 X Cert.ReferenceIdeal.Gen.bitsLt_bf16_f32) Cert.ReferenceIdeal.Gen.slices_S1920x384_S1920x128_0_0)
        (extractStridedSlice Cert.ReferenceIdeal.S1920x128 ![0, 128] (extf .f32 X Cert.ReferenceIdeal.Gen.bitsLt_bf16_f32) Cert.ReferenceIdeal.Gen.slices_S1920x384_S1920x128_0_128))
      (extractStridedSlice Cert.ReferenceIdeal.S1920x128 ![0, 256] (extf .f32 X Cert.ReferenceIdeal.Gen.bitsLt_bf16_f32) Cert.ReferenceIdeal.Gen.slices_S1920x384_S1920x128_0_256))
    (extractStridedSlice Cert.ReferenceIdeal.S128x10880 ![0, 128] H Cert.ReferenceIdeal.Gen.slices_S128x11008_S128x10880_0_128)

/-- The reference at an index: the limbs summed, times the Hessian's column past the first 128. -/
theorem ref_apply (X : FVec Ideal S1920x384 .bf16) (H : FVec Ideal S128x11008 .f32) (y : S1920x10880.Idx) :
    REF X H y = ∑ k : Fin 128, (X (ix2 (y 0) ⟨k.val, by omega⟩) + X (ix2 (y 0) ⟨128 + k.val, by omega⟩)
        + X (ix2 (y 0) ⟨256 + k.val, by omega⟩)) * H (ix2 k ⟨128 + (y 1).val, Nat.add_lt_of_lt_sub' (y 1).isLt⟩) := by
  pointwise [REF]

/-- A sum over 768 is six sums over 128, term by term. -/
theorem sum_six (f : Fin 768 → EReal) : ∑ x, f x = ∑ k : Fin 128, (f ⟨k.val, by omega⟩ + f ⟨128 + k.val, by omega⟩
    + f ⟨256 + k.val, by omega⟩ + f ⟨384 + k.val, by omega⟩ + f ⟨512 + k.val, by omega⟩ + f ⟨640 + k.val, by omega⟩) := by
  simp only [Finset.sum_add_distrib]
  have h := Fin.sum_univ_add (a := 640) (b := 128) (fun i => f i)
  rw [Fin.sum_univ_add (a := 512) (b := 128), Fin.sum_univ_add (a := 384) (b := 128), Fin.sum_univ_add (a := 256) (b := 128),
    Fin.sum_univ_add (a := 128) (b := 128)] at h
  exact h

/-- The three limbs by a finite word, as the kernel's six products add up and as the reference multiplies their sum. -/
theorem six_products (a₁ a₂ a₃ b : EReal) (h₁ : a₁ ≠ ⊤ ∧ a₁ ≠ ⊥) (h₂ : a₂ ≠ ⊤ ∧ a₂ ≠ ⊥) (h₃ : a₃ ≠ ⊤ ∧ a₃ ≠ ⊥) (hb : b ≠ ⊤ ∧ b ≠ ⊥) :
    a₁ * (b - b - (b - b)) + a₃ * b + a₂ * b + a₂ * (b - b) + a₁ * b + a₁ * (b - b) = (a₁ + a₂ + a₃) * b := by
  lift a₁ to ℝ using h₁
  lift a₂ to ℝ using h₂
  lift a₃ to ℝ using h₃
  lift b to ℝ using hb
  norm_cast
  ring

/-- A word of the stored tile, for operands finite where it reads them. -/
theorem pay_apply (a1 a2 a3 : FVec Ideal S1920x128 .bf16) (b : FVec Ideal S128x512 .f32) (y : S1920x512.Idx)
    (h1 : ∀ i, a1 i ≠ ⊤ ∧ a1 i ≠ ⊥) (h2 : ∀ i, a2 i ≠ ⊤ ∧ a2 i ≠ ⊥) (h3 : ∀ i, a3 i ≠ ⊤ ∧ a3 i ≠ ⊥)
    (hb : ∀ k : Fin 128, b (ix2 k (y 1)) ≠ ⊤ ∧ b (ix2 k (y 1)) ≠ ⊥) :
    k0_pay1 (F := Ideal) a1 a2 a3 b y
      = ∑ k : Fin 128, (a1 (ix2 (y 0) k) + a2 (ix2 (y 0) k) + a3 (ix2 (y 0) k)) * b (ix2 k (y 1)) := by
  pointwise [k0_pay1]
  rw [sum_six]
  refine Finset.sum_congr rfl fun k _ => ?_
  have hk := k.isLt
  refine Eq.trans ?_ (six_products _ _ _ _ (h1 _) (h2 _) (h3 _) (hb k))
  have e1 : ¬(128 + k.val < 128) := by omega
  have e2 : ¬(256 + k.val < 128) := by omega
  have e3 : ¬(384 + k.val < 128) := by omega
  have e4 : ¬(512 + k.val < 128) := by omega
  have e5 : ¬(640 + k.val < 128) := by omega
  have s1 : 128 + k.val - 128 = k.val := by omega
  have s2 : 256 + k.val - 128 = 128 + k.val := by omega
  have s3 : 384 + k.val - 128 = 256 + k.val := by omega
  have s4 : 512 + k.val - 128 = 384 + k.val := by omega
  have s5 : 640 + k.val - 128 = 512 + k.val := by omega
  simp only [hk, e1, e2, e3, e4, e5, s1, s2, s3, s4, s5, dif_pos, dif_neg, not_false_eq_true, Fin.eta]

end Cert.KernelIdeal.Value

end
-- ==== Proof.Point.lean ====
/-
  The word stored at a grid point of the update call, read at coordinates of the arrays.

  The limbs' block is the whole array; the Hessian's buffer holds the array on the columns inside it and anything past
  its end; the tile of point `t` is columns `512 t` on of the result. So what the body stores at a position its write-back
  moves is the reference at that position's place in the result array.
-/
module

public import proofs.«01_k».proof.Proof.Value

@[expose] public section

set_option maxRecDepth 16384

noncomputable section

namespace Cert.KernelIdeal.Value

open Cert.KernelIdeal Cert.KernelIdeal.Gen Cert.KernelIdeal.Body
open Idealize.ShloMosaic Idealize.ShloMosaic.TcCoe Idealize.SL.Sem
open Idealize.ShloMosaic.Pipeline (Dat)

variable (m : (ℓ : Loc nD τ sig) → Buf (Elt Ideal) ℓ)

/-- The two arguments as launched. -/
abbrev limbs (c : Dev nD) : FVec Ideal S1920x384 .bf16 := m ((c : Thread nD τ).loc main_arg0)
abbrev hinv (c : Dev nD) : FVec Ideal S128x11008 .f32 := m ((c : Thread nD τ).loc main_arg1)

/-- Every entry of an array is a real number. -/
def Finite {s : Shape} (X : s.Idx → EReal) : Prop := ∀ i, X i ≠ ⊤ ∧ X i ≠ ⊥

/-- The windows' block indices and cuts at every point, and the columns its load starts at. -/
theorem idx : ∀ t : Fin cfg0.N, win0_0.index t = ![0, 0] ∧ win0_1.index t = ![0, 0] ∧ win0_2.index t = ![0, t.val]
    ∧ (∀ a, win0_1.xsize (grid0.coords t) a = ![128, 11008] a)
    ∧ win0_2.xsize (grid0.coords t) 0 = 1920 ∧ 512 * t.val + win0_2.xsize (grid0.coords t) 1 ≤ 10880
    ∧ k0_off1 (grid0.coords t) = ![0, 128 + 512 * t.val] :=
  (by decide +kernel : ∀ t : Fin grid0.N, win0_0.index t = ![0, 0] ∧ win0_1.index t = ![0, 0] ∧ win0_2.index t = ![0, t.val]
    ∧ (∀ a, win0_1.xsize (grid0.coords t) a = ![128, 11008] a)
    ∧ win0_2.xsize (grid0.coords t) 0 = 1920 ∧ 512 * t.val + win0_2.xsize (grid0.coords t) 1 ≤ 10880
    ∧ k0_off1 (grid0.coords t) = ![0, 128 + 512 * t.val])

/-- The limbs' block is the whole array. -/
theorem iblk_0 (c : Dev nD) (t : Fin cfg0.N) : (iblk m c 0 t : FVec Ideal S1920x384 .bf16) = limbs m c := by
  funext y
  blk_simp [iblk, V]
  congr 1
  funext a
  apply Fin.ext
  have e := (idx t).1
  match a with
  | ⟨0, _⟩ => blk_simp [e]
  | ⟨1, _⟩ => blk_simp [e]

/-- The Hessian's buffer on a column inside the array. -/
theorem fill_1 (c : Dev nD) (t : Fin cfg0.N) (d : S128x11392.Idx → Elt Ideal .f32) (k : Fin 128) (n : ℕ) (hn : n < 11008) :
    (win0_1.fill (grid0.coords t) d (iblk m c 1 t) : FVec Ideal S128x11392 .f32) (ix2 k ⟨n, by omega⟩)
      = hinv m c (ix2 k ⟨n, hn⟩) := by
  obtain ⟨-, e, -, hx, -⟩ := idx t
  have hj : ∀ a, (![k.val, n] : Fin 2 → ℕ) a < win0_1.xsize (grid0.coords t) a := by
    intro a; rw [hx a]
    match a with
    | ⟨0, _⟩ => exact k.isLt
    | ⟨1, _⟩ => exact hn
  have hix : (ix2 k ⟨n, by omega⟩ : S128x11392.Idx) = win0_1.xinj (grid0.coords t) (fun a => ⟨(![k.val, n] : Fin 2 → ℕ) a, hj a⟩) := by
    funext a
    match a with
    | ⟨0, _⟩ => rfl
    | ⟨1, _⟩ => rfl
  rw [hix]
  refine (win0_1.fill_xinj (grid0.coords t) d (iblk m c 1 t) _).trans ?_
  blk_simp [iblk, V]
  congr 1
  funext a
  apply Fin.ext
  match a with
  | ⟨0, _⟩ => blk_simp [e]
  | ⟨1, _⟩ => blk_simp [e]

/-- The columns the body loads at point `t`, of an array laid out as the Hessian's buffer. -/
theorem ld_1 (t : Fin cfg0.N) (Z : FVec Ideal S128x11392 .f32) (k : Fin 128) (n : Fin 512) (hn : 128 + (512 * t.val + n.val) < 11392) :
    (View.ld (Val := Elt Ideal) (e' := .f32) Z (Rect.unit (s := S128x11392) (k0_off1 (grid0.coords t)) S128x512.size (k0_off1_inb (grid0.coords t)))) (ix2 k n) = Z (ix2 k ⟨128 + (512 * t.val + n.val), hn⟩) := by
  have ho := (idx t).2.2.2.2.2.2
  have h0 : k0_off1 (grid0.coords t) 0 = 0 := congrFun ho 0
  have h1 : k0_off1 (grid0.coords t) 1 = 128 + 512 * t.val := congrFun ho 1
  refine congrArg Z (funext fun a => Fin.ext ?_)
  match a with
  | ⟨0, _⟩ => show k0_off1 (grid0.coords t) 0 + 1 * k.val = k.val; omega
  | ⟨1, _⟩ => show k0_off1 (grid0.coords t) 1 + 1 * n.val = 128 + (512 * t.val + n.val); omega

/-- What the body loads of the Hessian's buffer at point `t`, on a column of the tile inside the array. -/
theorem load_1 (c : Dev nD) (t : Fin cfg0.N) (d : S128x11392.Idx → Elt Ideal .f32) (k : Fin 128) (n : Fin 512)
    (hn : 512 * t.val + n.val < 10880) :
    (View.ld (Val := Elt Ideal) (e' := .f32) (win0_1.fill (grid0.coords t) d (iblk m c 1 t)) (Rect.unit (s := S128x11392) (k0_off1 (grid0.coords t)) S128x512.size (k0_off1_inb (grid0.coords t)))) (ix2 k n) = hinv m c (ix2 k ⟨128 + (512 * t.val + n.val), by omega⟩) :=
  (ld_1 t _ k n (by omega)).trans (fill_1 m c t d k _ (by omega))

/-- The panel of 128 limb columns from column `o` on. -/
theorem ld_0 (X : FVec Ideal S1920x384 .bf16) (o : ℕ) (ho : o + 128 ≤ 384) (inb : ∀ a, (![0, o] : Fin 2 → ℕ) a + S1920x128.size a ≤ S1920x384.size a) (r : Fin 1920) (k : Fin 128) :
    (View.ld (Val := Elt Ideal) (e' := .bf16) X (Rect.unit (s := S1920x384) ![0, o] S1920x128.size inb)) (ix2 r k)
      = X (ix2 r ⟨o + k.val, by omega⟩) := by
  refine congrArg X (funext fun a => Fin.ext ?_)
  match a with
  | ⟨0, _⟩ => show 0 + 1 * r.val = r.val; omega
  | ⟨1, _⟩ => show o + 1 * k.val = o + k.val; omega

/-- Where a position of tile `t` sits in the result. -/
theorem emb_2 (t : Fin cfg0.N) (j : (win0_2.xblock (grid0.coords t)).Idx) (h0 : (j 0).val < 1920)
    (h1 : 512 * t.val + (j 1).val < 10880) :
    (win0_2.blk t).view.emb j = (ix2 ⟨(j 0).val, h0⟩ ⟨512 * t.val + (j 1).val, h1⟩ : S1920x10880.Idx) := by
  have e2 := (idx t).2.2.1
  funext a
  apply Fin.ext
  match a with
  | ⟨0, _⟩ =>
    show win0_2.index t 0 * 1920 + 1 * (j 0).val = (j 0).val
    rw [e2]; simp
  | ⟨1, _⟩ =>
    show win0_2.index t 1 * 512 + 1 * (j 1).val = 512 * t.val + (j 1).val
    rw [e2]; simp; omega

/-- What the body stores at a position of the tile inside the array. -/
theorem stored_apply (c : Dev nD) (t : Fin cfg0.N) (d : S128x11392.Idx → Elt Ideal .f32)
    (hX : Finite (limbs m c)) (hH : Finite (hinv m c)) (r : Fin 1920) (n : Fin 512) (hn : 512 * t.val + n.val < 10880) :
    stored (F := Ideal) (grid0.coords t) (limbs m c) (win0_1.fill (grid0.coords t) d (iblk m c 1 t)) (ix2 r n)
      = REF (limbs m c) (hinv m c) (ix2 r ⟨512 * t.val + n.val, hn⟩) := by
  rw [ref_apply]
  unfold stored
  have hl := fun k => load_1 m c t d k n hn
  refine (pay_apply _ _ _ _ _ (fun i => hX _) (fun i => hX _) (fun i => hX _) (fun k => ?_)).trans ?_
  · have h := hH (ix2 k ⟨128 + (512 * t.val + n.val), by omega⟩)
    rw [← hl k] at h
    exact h
  refine Finset.sum_congr rfl fun k _ => ?_
  refine congrArg₂ (· * ·) ?_ (hl k)
  refine congrArg₂ (· + ·) (congrArg₂ (· + ·) ?_ ?_) ?_
  · refine (ld_0 _ 0 (by omega) _ r k).trans (congrArg (limbs m c) (congrArg (ix2 r) (Fin.ext (Nat.zero_add _))))
  · exact ld_0 _ 128 (by omega) _ r k
  · exact ld_0 _ 256 (by omega) _ r k

/-- POINT: what the body stores where the write-back moves it is the reference there. -/
theorem point (c : Dev nD) (t : Fin cfg0.N) (d : S128x11392.Idx → Elt Ideal .f32)
    (hX : Finite (limbs m c)) (hH : Finite (hinv m c)) :
    win0_2.cut (grid0.coords t) (stored (F := Ideal) (grid0.coords t) (iblk m c 0 t) (win0_1.fill (grid0.coords t) d (iblk m c 1 t)))
      = (win0_2.blk t).view.read (Elt Ideal) (REF (limbs m c) (hinv m c)) := by
  obtain ⟨-, -, -, -, hx0, hx1, -⟩ := idx t
  funext j
  have hj1 : (j 1).val < win0_2.xsize (grid0.coords t) 1 := (j 1).isLt
  have hj0 : (j 0).val < 1920 := hx0 ▸ (j 0).isLt
  have hc : 512 * t.val + (j 1).val < 10880 := by omega
  have hj5 : (j 1).val < 512 := Nat.lt_of_lt_of_le hj1 (win0_2.xsize_le (grid0.coords t) 1)
  refine Eq.trans ?_ ((stored_apply m c t d hX hH ⟨(j 0).val, hj0⟩ ⟨(j 1).val, hj5⟩ hc).trans ?_)
  · rw [iblk_0, Pipeline.Window.cut_apply]
    refine congrArg (stored (F := Ideal) _ _ _) (funext fun a => Fin.ext ?_)
    match a with
    | ⟨0, _⟩ => rfl
    | ⟨1, _⟩ => rfl
  · exact (congrArg (REF (limbs m c) (hinv m c)) (emb_2 t j hj0 hc)).symm

end Cert.KernelIdeal.Value

end
-- ==== Proof.ValueRun.lean ====
/-
  The update call's run at exact reals: the result array ends at the reference's term of the two arguments.

  The proof data name the result's buffer after a point by the reference's block there; the body obligation is
  `Body.kernelRun` with what it stores read by `point` on the part the write-back moves. The blocks cover the array, so
  the array ends at the reference (`final`), and `run_value` is the run.
-/
module

public import proofs.«01_k».proof.Proof.Point

@[expose] public section

set_option maxRecDepth 16384

noncomputable section

namespace Cert.KernelIdeal.Value

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable (m : (ℓ : Loc nD τ sig) → Buf (Elt Ideal) ℓ) (ρ : Dev nD → PrngReg)

/-- The word the buffers are filled out with past their arrays' ends; nothing reads it. -/
abbrev pad {s : Shape} : s.Idx → Elt Ideal .f32 := fun _ => (Scalar.ofBits .f32 0#32 : Ideal .f32)

/-- The result's buffer after point `t`: the reference's block, filled out past the array's end with a word nothing
    moves. -/
def tile (c : Dev nD) (t : Fin cfg0.N) : S1920x512.Idx → Elt Ideal .f32 :=
  win0_2.fill (grid0.coords t) pad
    ((win0_2.blk t).view.read (Elt Ideal) (REF (limbs m c) (hinv m c)))

/-- The proof data of the value run. -/
def datsV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) pad (iblk m c 1 t)
    | ⟨2, _⟩ => tile m c t
  Φ _ := Pipeline.ΦA spec0 c
  q _ := fullShare
  owed _ := 0

theorem A_eqV (c : Dev nD) (w : Fin cfg0.W) : (datsV m 0 c).A w = V m c (Pipeline.arrRef spec0 w) := by dsimp only [datsV]
theorem afterV_0 (c : Dev nD) (t : Fin cfg0.N) : (datsV m 0 c).after 0 t = iblk m c 0 t := by dsimp only [datsV]
theorem afterV_1 (c : Dev nD) (t : Fin cfg0.N) : (datsV m 0 c).after 1 t
    = win0_1.fill (grid0.coords t) pad (iblk m c 1 t) := by dsimp only [datsV]
theorem afterV_2 (c : Dev nD) (t : Fin cfg0.N) : (datsV m 0 c).after 2 t = tile m c t := by dsimp only [datsV]

theorem beforeV_0 (c : Dev nD) (t : Fin cfg0.N) (d) : (datsV m 0 c).before 0 t d = iblk m c 0 t :=
  before0_0_of m (datsV m 0 c) (A_eqV m c 0) (afterV_0 m c) t d
theorem beforeV_1 (c : Dev nD) (t : Fin cfg0.N) (d) :
    (datsV m 0 c).before 1 t d = win0_1.fill (grid0.coords t) d (iblk m c 1 t) :=
  before_1_of m (datsV m 0 c) (A_eqV m c 1) (fun t => by rw [afterV_1]; exact win0_1.cut_fill _ _ _) t d

/-- What the body stores is the tile wherever the write-back moves it. -/
theorem stored_eq (c : Dev nD) (t : Fin cfg0.N) (d : S128x11392.Idx → Elt Ideal .f32)
    (hX : Finite (limbs m c)) (hH : Finite (hinv m c)) :
    stored (F := Ideal) (grid0.coords t) (iblk m c 0 t) (win0_1.fill (grid0.coords t) d (iblk m c 1 t))
      = win0_2.fill (grid0.coords t)
          (stored (F := Ideal) (grid0.coords t) (iblk m c 0 t) (win0_1.fill (grid0.coords t) d (iblk m c 1 t)))
          (win0_2.cut (grid0.coords t) (tile m c t)) := by
  have e : win0_2.cut (grid0.coords t) (tile m c t)
      = win0_2.cut (grid0.coords t) (stored (F := Ideal) (grid0.coords t) (iblk m c 0 t) (win0_1.fill (grid0.coords t) d (iblk m c 1 t))) :=
    (win0_2.cut_fill _ _ _).trans (point m c t d hX hH).symm
  rw [e]
  exact (win0_2.fill_cut _ _).symm

/-- The body obligation of the value run. -/
theorem body_obligationV (c : Dev nD) (hX : Finite (limbs m c)) (hH : Finite (hinv m c)) :
    BodyObligationLoose (datsV m 0 c) (defs₀ (F := Ideal)) Variants.none () Set.univ := fun t => by
  rw [bigSep_W0, bigSep_W0, defs₀_row]
  rw [show (datsV m 0 c).Φ t.succ = (datsV m 0 c).Φ t.castSucc from rfl,
    show (datsV m 0 c).owesAt () t.succ = (datsV m 0 c).owesAt () t.castSucc from rfl]
  iintro ⟨HΦ, Ho, ⟨%d0, H0⟩, ⟨%d1, H1⟩, ⟨%d2, H2⟩⟩
  rw [beforeV_0 m c t d0, beforeV_1 m c t d1, afterV_0 m c t, afterV_1 m c t, afterV_2 m c t]
  unfold bodyAt0
  iapply (kernelRun c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2))
    (hstage0_2 ((cfg0.slots t 2).cast nbuf0_2)) (iblk m c 0 t) (win0_1.fill (grid0.coords t) d1 (iblk m c 1 t)) _)
  isplitl [H0 H1 H2]
  · isplitl [H0]; · iexact H0
    isplitl [H1]; · iexact H1
    iexists _; iexact H2
  iintro ⟨H0, H1, H2⟩
  isplitl [HΦ]; · iexact HΦ
  isplitl [Ho]; · iexact Ho
  isplitl [H0]; · iexact H0
  isplitl [H1]
  · iexists d1
    change _ ⊢ owns (c : Thread nD τ) (stage0_1 (cfg0.slots t 1)) fullShare (win0_1.fill (grid0.coords t) d1
      (win0_1.cut (grid0.coords t) (win0_1.fill (grid0.coords t) pad (iblk m c 1 t))))
    rw [win0_1.cut_fill]; try iexact H1
  · iexists (stored (F := Ideal) (grid0.coords t) (iblk m c 0 t) (win0_1.fill (grid0.coords t) d1 (iblk m c 1 t)))
    change _ ⊢ owns (c : Thread nD τ) (stage0_2 (cfg0.slots t 2)) fullShare (win0_2.fill (grid0.coords t)
      (stored (F := Ideal) (grid0.coords t) (iblk m c 0 t) (win0_1.fill (grid0.coords t) d1 (iblk m c 1 t)))
      (win0_2.cut (grid0.coords t) (tile m c t)))
    rw [← stored_eq m c t d1 hX hH]; try iexact H2

/-- The written-back blocks cover the result. -/
theorem covers : win0_2.Covers := by decide +kernel

/-- The result array ends at the reference. -/
theorem final (c : Dev nD) : (datsV m 0 c).arrAt 2 cfg0.N = REF (limbs m c) (hinv m c) :=
  (datsV m 0 c).arrAt_eq_of_cover 2 (REF (limbs m c) (hinv m c))
    (fun t _ => (congrArg (win0_2.cut (grid0.coords t)) (afterV_2 m c t)).trans (win0_2.cut_fill _ _ _))
    (Window.Covers.cover win0_2 covers (Memref.isWhole_whole _))

set_option backward.isDefEq.respectTransparency.types false in
/-- The run, with every buffer's end. -/
theorem run_post (hX : ∀ c, Finite (limbs m c)) (hH : ∀ c, Finite (hinv m c)) :
    θ_run defs (onTc (τ := τ) (main (F := Ideal))) (s₀ m ρ) (Pipeline.FramePost cfgs (datsV m) 0 (V m)) :=
  Pipeline.θ_run_frame cfgs (datsV m) (0 : Fin 1) launch0 defs₀ Variants.none m ρ main
    (hbody := fun c => body_obligationV m c (hX c) (hH c)) (hshare := fun c => (datsV m 0 c).share_full fun _ => rfl)
    (howed := fun _ _ => rfl) (V := V m) (hmain := hmain m Variants.none) (hA := A_eqV m) (hΦ := fun _ _ => rfl)

/-- THE VALUE RUN: on real arguments every execution terminates with the result at the reference's term of the
    arguments, and the arguments unchanged. -/
theorem run_value (hX : ∀ c, Finite (limbs m c)) (hH : ∀ c, Finite (hinv m c)) :
    θ_run defs (onTc (τ := τ) (main (F := Ideal))) ⟨m, fun _ => 0, ρ⟩ (fun r => ∀ c : Dev nD,
      r.2.mem ((c.tc : Thread nD τ).loc main_v0) = REF (limbs m c) (hinv m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h.out_eq c 2).trans (final m c),
     (h.in_eq c 0 rfl).trans ((A_eqV m c 0).trans (V_main_arg0 m c)),
     (h.in_eq c 1 rfl).trans ((A_eqV m c 1).trans (V_main_arg1 m c))⟩) (run_post m ρ hX hH)

end Cert.KernelIdeal.Value

end
-- ==== Proof.Finite.lean ====
/-
  The precondition, decoded: where `finite` is true every limb and every entry of the Hessian's rows is a real number.
-/
module

public import proofs.«01_k».proof.Pre_finite
public import Idealize.ShloMosaic.Lib.ReduceAll
public import Idealize.ShloMosaic.Lib.KernelVsHost

@[expose] public section

set_option maxRecDepth 16384

noncomputable section

namespace Cert.Pre_finite

open Idealize.ShloMosaic

/-- The side conditions the printed predicate takes. -/
theorem facts : Facts where
  bitsLt_bf16_f32 := by decide
  bcast_S_S1920x384 := by decide +kernel
  reducesTo_S1920x384_S_d0_1 := by decide +kernel
  h_S_ := by decide
  bcast_S_S128x11008 := by decide +kernel
  reducesTo_S128x11008_S_d0_1 := by decide +kernel

/-- An extended real whose magnitude is below infinity is a real number. -/
theorem real_of_lt (x : EReal) (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  constructor
  · rintro rfl; revert h; simp [Ideal.cmp]
  · rintro rfl; revert h; simp [Ideal.cmp]

/-- Both bits of a conjunction that is 1 are 1. -/
theorem and_one : ∀ a b : BitVec 1, IntOp.andi a b = 1#1 → a = 1#1 ∧ b = 1#1 := by decide

/-- THE PRECONDITION: both arguments hold real numbers. -/
theorem finite [Facts] (X : FVec Ideal S1920x384 .bf16) (H : FVec Ideal S128x11008 .f32)
    (h : fn (F := Ideal) X H = fun _ => 1#1) :
    (∀ i, (X i : EReal) ≠ ⊤ ∧ (X i : EReal) ≠ ⊥) ∧ ∀ i, (H i : EReal) ≠ ⊤ ∧ (H i : EReal) ≠ ⊥ := by
  have : Subsingleton S_.Idx := ⟨fun a b => funext fun k => k.elim0⟩
  have hu : 0 < S_.numel := Facts.h_S_
  have e := congrFun h (Shape.Idx.first hu)
  obtain ⟨e0, e1⟩ := and_one _ _ e
  exact ⟨fun i => real_of_lt _ (Host.reduce_andi_all _ _ _ _ _ e0 i), fun i => real_of_lt _ (Host.reduce_andi_all _ _ _ _ _ e1 i)⟩

end Cert.Pre_finite

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.BodyKernel
public import proofs.«01_k».proof.Proof.BodyKernelIdeal
public import proofs.«01_k».proof.Proof.ValueRun
public import proofs.«01_k».proof.Proof.Finite
public import Idealize.ShloMosaic.Adequacy
public import Idealize.ShloMosaic.Init

@[expose] public section

noncomputable section

namespace Cert.Proof

open Idealize.ShloMosaic Idealize.SL.Sem

/-- The reference program has no semaphores: its run leaves the arguments unchanged and every counter at zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => (h c).2, sem_eq_zero_of_no_sems (by decide) r.2⟩) (Cert.ReferenceIdeal.Value.run m g)

/-- At exact reals the kernel's result and the reference's are the same array. -/
theorem algebraic : @Cert.algebraic_KernelIdeal_ReferenceIdeal_pre_finite Cert.KernelIdeal.Gen.facts Cert.ReferenceIdeal.Gen.facts
    Cert.Pre_finite.facts := by
  intro m g m' g' hpre hargs
  have hfin := fun c => @Cert.Pre_finite.finite Cert.Pre_finite.facts _ _ (hpre c)
  refine ⟨fun c => Cert.KernelIdeal.Value.REF (Cert.KernelIdeal.Value.limbs m c) (Cert.KernelIdeal.Value.hinv m c),
    Cert.KernelIdeal.Value.run_value m g (fun c => (hfin c).1) (fun c => (hfin c).2), ?_⟩
  refine (θ_run _ _ _).mono (fun r h c => ⟨(h c).1.trans ?_, (h c).2⟩) (Cert.ReferenceIdeal.Value.run m' g')
  rw [(hargs c).1, (hargs c).2]

theorem claim : Cert.Claim := ⟨Cert.Kernel.Gen.facts, Cert.KernelIdeal.Gen.facts, Cert.ReferenceIdeal.Gen.facts, Cert.Pre_finite.facts,
  fun m g _ => Cert.Kernel.Body.frame m g,
  fun m g _ => Cert.KernelIdeal.Body.frame m g,
  fun m g _ => Cert.KernelIdeal.Body.frame m g,
  fun m g _ => frame_reference m g,
  fun m g _ => frame_reference m g,
  trivial,
  algebraic⟩

end Cert.Proof

end
